-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6400000x5 : Shape := ⟨2, ![6400000, 5]⟩
abbrev S32000000 : Shape := ⟨1, ![32000000]⟩
abbrev S12800000 : Shape := ⟨1, ![12800000]⟩
abbrev S10000 : Shape := ⟨1, ![10000]⟩
abbrev S4000 : Shape := ⟨1, ![4000]⟩
abbrev S16 : Shape := ⟨1, ![16]⟩
abbrev S_ : Shape := ⟨0, ![]⟩
abbrev S6400000x2 : Shape := ⟨2, ![6400000, 2]⟩

abbrev nBuf : Table → Nat
  | .hbm => 4
  | .local .scVector .vmem => 2
  | _ => 0

abbrev bufTy : (tb : Table) → Fin (nBuf tb) → BufTy
  | .hbm, ⟨0, _⟩ => ⟨S6400000x5, .f32⟩
  | .hbm, ⟨1, _⟩ => ⟨S32000000, .f32⟩
  | .hbm, ⟨2, _⟩ => ⟨S12800000, .f32⟩
  | .hbm, ⟨3, _⟩ => ⟨S6400000x2, .f32⟩
  | .local .scVector .vmem, ⟨0, _⟩ => ⟨S10000, .f32⟩
  | .local .scVector .vmem, ⟨1, _⟩ => ⟨S4000, .f32⟩
  | _, _ => ⟨S6400000x5, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c100_i32 : BitVec 32 := 100#32
  let v8 : BitVec 32 := Scalar.addi c0_i32_1 c100_i32
  let c1_i32 : BitVec 32 := 1#32
  ⟨c0_i32_1, v8, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32_1 : BitVec 32 := 0#32
  let c1_i32 : BitVec 32 := 1#32
  let arg6 : BitVec 32 := Scf.iv c0_i32_1 c1_i32 k0_t1
  let c2000_i32 : BitVec 32 := 2000#32
  let v9 : BitVec 32 := Scalar.muli arg6 c2000_i32
  let v10 : BitVec 32 := Scalar.addi v2 v9
  let c5_i32_3 : BitVec 32 := 5#32
  let v11 : BitVec 32 := Scalar.muli v10 c5_i32_3
  ![v11.toNat]
@[reducible] def k0_t2_loop : Scf.Loop 32 :=
  let c0_i32_5 : BitVec 32 := 0#32
  let c125_i32 : BitVec 32 := 125#32
  let v12 : BitVec 32 := Scalar.addi c0_i32_5 c125_i32
  let c1_i32_6 : BitVec 32 := 1#32
  ⟨c0_i32_5, v12, c1_i32_6⟩

def k0_chk1 (v16 : IVec S16 32) : Prop :=
  (∀ a x, ((![v16] : Fin 1 → IVec S16 32) a x).toNat < S10000.size a)
theorem k0_idx1_inb : ∀ (v16 : IVec S16 32) (k0_hw1 : k0_chk1 v16), ∀ a x, ((![v16] : Fin 1 → IVec S16 32) a x).toNat < S10000.size a := fun v16 k0_hw1 => k0_hw1

def k0_chk2 (v19 : IVec S16 32) : Prop :=
  (∀ a x, ((![v19] : Fin 1 → IVec S16 32) a x).toNat < S10000.size a)
theorem k0_idx2_inb : ∀ (v19 : IVec S16 32) (k0_hw2 : k0_chk2 v19), ∀ a x, ((![v19] : Fin 1 → IVec S16 32) a x).toNat < S10000.size a := fun v19 k0_hw2 => k0_hw2

def k0_chk3 (v22 : IVec S16 32) : Prop :=
  (∀ a x, ((![v22] : Fin 1 → IVec S16 32) a x).toNat < S10000.size a)
theorem k0_idx3_inb : ∀ (v22 : IVec S16 32) (k0_hw3 : k0_chk3 v22), ∀ a x, ((![v22] : Fin 1 → IVec S16 32) a x).toNat < S10000.size a := fun v22 k0_hw3 => k0_hw3

def k0_chk4 (v25 : IVec S16 32) : Prop :=
  (∀ a x, ((![v25] : Fin 1 → IVec S16 32) a x).toNat < S10000.size a)
theorem k0_idx4_inb : ∀ (v25 : IVec S16 32) (k0_hw4 : k0_chk4 v25), ∀ a x, ((![v25] : Fin 1 → IVec S16 32) a x).toNat < S10000.size a := fun v25 k0_hw4 => k0_hw4

def k0_chk5 (v28 : IVec S16 32) : Prop :=
  (∀ a x, ((![v28] : Fin 1 → IVec S16 32) a x).toNat < S10000.size a)
theorem k0_idx5_inb : ∀ (v28 : IVec S16 32) (k0_hw5 : k0_chk5 v28), ∀ a x, ((![v28] : Fin 1 → IVec S16 32) a x).toNat < S10000.size a := fun v28 k0_hw5 => k0_hw5

def k0_chk6 (v32 : IVec S16 32) : Prop :=
  (∀ a x, ((![v32] : Fin 1 → IVec S16 32) a x).toNat < S4000.size a)
theorem k0_idx6_inb : ∀ (v32 : IVec S16 32) (k0_hw6 : k0_chk6 v32), ∀ a x, ((![v32] : Fin 1 → IVec S16 32) a x).toNat < S4000.size a := fun v32 k0_hw6 => k0_hw6

def k0_chk7 (v36 : IVec S16 32) : Prop :=
  (∀ a x, ((![v36] : Fin 1 → IVec S16 32) a x).toNat < S4000.size a)
theorem k0_idx7_inb : ∀ (v36 : IVec S16 32) (k0_hw7 : k0_chk7 v36), ∀ a x, ((![v36] : Fin 1 → IVec S16 32) a x).toNat < S4000.size a := fun v36 k0_hw7 => k0_hw7
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32_1 : BitVec 32 := 0#32
  let c1_i32 : BitVec 32 := 1#32
  let arg6 : BitVec 32 := Scf.iv c0_i32_1 c1_i32 k0_t1
  let c2000_i32 : BitVec 32 := 2000#32
  let v9 : BitVec 32 := Scalar.muli arg6 c2000_i32
  let v10 : BitVec 32 := Scalar.addi v2 v9
  let c2_i32_8 : BitVec 32 := 2#32
  let v13 : BitVec 32 := Scalar.muli v10 c2_i32_8
  ![v13.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6400000x5 : Shape := ⟨2, ![6400000, 5]⟩
abbrev S5 : Shape := ⟨1, ![5]⟩
abbrev S5x6400000 : Shape := ⟨2, ![5, 6400000]⟩
abbrev S_ : Shape := ⟨0, ![]⟩
abbrev S2x6400000 : Shape := ⟨2, ![2, 6400000]⟩
abbrev S2 : Shape := ⟨1, ![2]⟩
abbrev S2x1 : Shape := ⟨2, ![2, 1]⟩
abbrev S1 : Shape := ⟨1, ![1]⟩
abbrev S1x6400000 : Shape := ⟨2, ![1, 6400000]⟩
abbrev S6400000 : Shape := ⟨1, ![6400000]⟩
abbrev S6400000x2 : Shape := ⟨2, ![6400000, 2]⟩

abbrev nBuf : Space → Nat
  | .hbm => 78
  | .vmem => 0
  | .smem => 0
  | _ => 0

abbrev bufTy : (tb : Table) → Fin (tcTables nBuf tb) → BufTy
  | .hbm, ⟨0, _⟩ => ⟨S6400000x5, .f32⟩
  | .hbm, ⟨1, _⟩ => ⟨S5, .i32⟩
  | .hbm, ⟨2, _⟩ => ⟨S5x6400000, .f32⟩
  | .hbm, ⟨3, _⟩ => ⟨S_, .f32⟩
  | .hbm, ⟨4, _⟩ => ⟨S2x6400000, .f32⟩
  | .hbm, ⟨5, _⟩ => ⟨S2, .i32⟩
  | .hbm, ⟨6, _⟩ => ⟨S2x1, .i32⟩
  | .hbm, ⟨7, _⟩ => ⟨S1, .i32⟩
  | .hbm, ⟨8, _⟩ => ⟨S_, .i32⟩
  | .hbm, ⟨9, _⟩ => ⟨S2x1, .i32⟩
  | .hbm, ⟨10, _⟩ => ⟨S2x1, .i1⟩
  | .hbm, ⟨11, _⟩ => ⟨S1x6400000, .f32⟩
  | .hbm, ⟨12, _⟩ => ⟨S6400000, .f32⟩
  | .hbm, ⟨13, _⟩ => ⟨S1x6400000, .f32⟩
  | .hbm, ⟨14, _⟩ => ⟨S_, .f32⟩
  | .hbm, ⟨15, _⟩ => ⟨S_, .f32⟩
  | .hbm, ⟨16, _⟩ => ⟨S2x6400000, .i1⟩
  | .hbm, ⟨17, _⟩ => ⟨S2x6400000, .f32⟩
  | .hbm, ⟨18, _⟩ => ⟨S2x6400000, .f32⟩
  | .hbm, ⟨19, _⟩ => ⟨S2x6400000, .f32⟩
  | .hbm, ⟨20, _⟩ => ⟨S2x6400000, .f32⟩
  | .hbm, ⟨21, _⟩ => ⟨S1, .i32⟩
  | .hbm, ⟨22, _⟩ => ⟨S_, .i32⟩
  | .hbm, ⟨23, _⟩ => ⟨S2x1, .i32⟩
  | .hbm, ⟨24, _⟩ => ⟨S2x1, .i1⟩
  | .hbm, ⟨25, _⟩ => ⟨S1x6400000, .f32⟩
  | .hbm, ⟨26, _⟩ => ⟨S6400000, .f32⟩
  | .hbm, ⟨27, _⟩ => ⟨S1x6400000, .f32⟩
  | .hbm, ⟨28, _⟩ => ⟨S_, .f32⟩
  | .hbm, ⟨29, _⟩ => ⟨S_, .f32⟩
  | .hbm, ⟨30, _⟩ => ⟨S2x6400000, .i1⟩
  | .hbm, ⟨31, _⟩ => ⟨S2x6400000, .f32⟩
  | .hbm, ⟨32, _⟩ => ⟨S2x6400000, .f32⟩
  | .hbm, ⟨33, _⟩ => ⟨S2x6400000, .f32⟩
  | .hbm, ⟨34, _⟩ => ⟨S2x6400000, .f32⟩
  | .hbm, ⟨35, _⟩ => ⟨S1, .i32⟩
  | .hbm, ⟨36, _⟩ => ⟨S_, .i32⟩
  | .hbm, ⟨37, _⟩ => ⟨S2x1, .i32⟩
  | .hbm, ⟨38, _⟩ => ⟨S2x1, .i1⟩
  | .hbm, ⟨39, _⟩ => ⟨S1x6400000, .f32⟩
  | .hbm, ⟨40, _⟩ => ⟨S6400000, .f32⟩
  | .hbm, ⟨41, _⟩ => ⟨S1x6400000, .f32⟩
  | .hbm, ⟨42, _⟩ => ⟨S_, .f32⟩
  | .hbm, ⟨43, _⟩ => ⟨S_, .f32⟩
  | .hbm, ⟨44, _⟩ => ⟨S2x6400000, .i1⟩
  | .hbm, ⟨45, _⟩ => ⟨S2x6400000, .f32⟩
  | .hbm, ⟨46, _⟩ => ⟨S2x6400000, .f32⟩
  | .hbm, ⟨47, _⟩ => ⟨S2x6400000, .f32⟩
  | .hbm, ⟨48, _⟩ => ⟨S2x6400000, .f32⟩
  | .hbm, ⟨49, _⟩ => ⟨S1, .i32⟩
  | .hbm, ⟨50, _⟩ => ⟨S_, .i32⟩
  | .hbm, ⟨51, _⟩ => ⟨S2x1, .i32⟩
  | .hbm, ⟨52, _⟩ => ⟨S2x1, .i1⟩
  | .hbm, ⟨53, _⟩ => ⟨S1x6400000, .f32⟩
  | .hbm, ⟨54, _⟩ => ⟨S6400000, .f32⟩
  | .hbm, ⟨55, _⟩ => ⟨S1x6400000, .f32⟩
  | .hbm, ⟨56, _⟩ => ⟨S_, .f32⟩
  | .hbm, ⟨57, _⟩ => ⟨S_, .f32⟩
  | .hbm, ⟨58, _⟩ => ⟨S2x6400000, .i1⟩
  | .hbm, ⟨59, _⟩ => ⟨S2x6400000, .f32⟩
  | .hbm, ⟨60, _⟩ => ⟨S2x6400000, .f32⟩
  | .hbm, ⟨61, _⟩ => ⟨S2x6400000, .f32⟩
  | .hbm, ⟨62, _⟩ => ⟨S2x6400000, .f32⟩
  | .hbm, ⟨63, _⟩ => ⟨S1, .i32⟩
  | .hbm, ⟨64, _⟩ => ⟨S_, .i32⟩
  | .hbm, ⟨65, _⟩ => ⟨S2x1, .i32⟩
  | .hbm, ⟨66, _⟩ => ⟨S2x1, .i1⟩
  | .hbm, ⟨67, _⟩ => ⟨S1x6400000, .f32⟩
  | .hbm, ⟨68, _⟩ => ⟨S6400000, .f32⟩
  | .hbm, ⟨69, _⟩ => ⟨S1x6400000, .f32⟩
  | .hbm, ⟨70, _⟩ => ⟨S_, .f32⟩
  | .hbm, ⟨71, _⟩ => ⟨S_, .f32⟩
  | .hbm, ⟨72, _⟩ => ⟨S2x6400000, .i1⟩
  | .hbm, ⟨73, _⟩ => ⟨S2x6400000, .f32⟩
  | .hbm, ⟨74, _⟩ => ⟨S2x6400000, .f32⟩
  | .hbm, ⟨75, _⟩ => ⟨S2x6400000, .f32⟩
  | .hbm, ⟨76, _⟩ => ⟨S2x6400000, .f32⟩
  | .hbm, ⟨77, _⟩ => ⟨S6400000x2, .f32⟩
  | _, _ => ⟨S6400000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_4 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Proof.SegProd.lean ====
/-
  The values the kernel computes, apart from any program: products of consecutive entries of a flat array, what the two
  lane stores of one step leave in the staging buffer, and the reading of a two-column array as a flat one.
-/
module

public import Idealize.ShloMosaic.Lib.SparseCore.Ops
public import Idealize.ShloMosaic.Lib.Pipeline.Kit
public import Idealize.ShloMosaic.Lib.Tactic

@[expose] public section

noncomputable section

namespace Cert.Proof.SegProd

open Idealize.ShloMosaic

variable {F : FTy → Type}

/-! ## Positions of a flat array -/

/-- The position `k` (modulo the length) of a flat array of `n` elements. -/
def pos (n : ℕ) (hn : 0 < n) (k : ℕ) : (⟨1, ![n]⟩ : Shape).Idx :=
  fun a => ⟨k % n, by rw [Subsingleton.elim a 0]; exact Nat.mod_lt k hn⟩

/-- The coordinate of `pos` is `k` when `k` is in range. -/
theorem pos_val {n : ℕ} (hn : 0 < n) {k : ℕ} (hk : k < n) : (pos n hn k 0).val = k := Nat.mod_eq_of_lt hk

/-- Two positions of a flat array with one coordinate are one position. -/
theorem flat_ext {d : Fin 1 → ℕ} {x y : (⟨1, d⟩ : Shape).Idx} (h : (x 0).val = (y 0).val) : x = y := by
  funext a; rw [Subsingleton.elim a 0]; exact Fin.ext h

/-- A position is `pos` of its coordinate. -/
theorem pos_self {n : ℕ} (hn : 0 < n) (x : (⟨1, ![n]⟩ : Shape).Idx) : pos n hn (x 0).val = x :=
  flat_ext (pos_val hn (x 0).isLt)

/-! ## The products -/

section Products

variable [FloatOps F]

/-- Entry `y` of the flat result from the flat input `g`: row `y / 2` of five entries gives the product of its first three
    entries in column zero and the product of its last two in column one. -/
def prodAt (g : ℕ → F .f32) (y : ℕ) : F .f32 :=
  if y % 2 = 0 then FloatOps.mulf (FloatOps.mulf (g (5 * (y / 2))) (g (5 * (y / 2) + 1))) (g (5 * (y / 2) + 2))
  else FloatOps.mulf (g (5 * (y / 2) + 3)) (g (5 * (y / 2) + 4))

theorem prodAt_even (g : ℕ → F .f32) (r : ℕ) :
    prodAt g (2 * r) = FloatOps.mulf (FloatOps.mulf (g (5 * r)) (g (5 * r + 1))) (g (5 * r + 2)) := by
  unfold prodAt
  rw [if_pos (by omega), show 2 * r / 2 = r by omega]

theorem prodAt_odd (g : ℕ → F .f32) (r : ℕ) : prodAt g (2 * r + 1) = FloatOps.mulf (g (5 * r + 3)) (g (5 * r + 4)) := by
  unfold prodAt
  rw [if_neg (by omega), show (2 * r + 1) / 2 = r by omega]

/-- Entry `y` of the products reads only the five entries of row `y / 2`. -/
theorem prodAt_congr {g h : ℕ → F .f32} {a b y : ℕ} (hab : ∀ k, k < 5 → g (5 * a + (5 * (y / 2) + k)) = h (5 * b + (5 * (y / 2) + k))) :
    prodAt g (2 * a + y) = prodAt h (2 * b + y) := by
  have e (c : ℕ) : 5 * ((2 * c + y) / 2) = 5 * c + 5 * (y / 2) := by omega
  unfold prodAt
  rw [show (2 * a + y) % 2 = y % 2 by omega, show (2 * b + y) % 2 = y % 2 by omega, e a, e b]
  have h0 := hab 0 (by omega)
  have h1 := hab 1 (by omega)
  have h2 := hab 2 (by omega)
  have h3 := hab 3 (by omega)
  have h4 := hab 4 (by omega)
  simp only [← Nat.add_assoc, Nat.add_zero] at h0 h1 h2 h3 h4
  rw [h0, h1, h2, h3, h4]

end Products

/-! ## A lane store -/

section Store

variable {e : EltTy} {s : Shape} {d : Fin 1 → ℕ}

/-- Writing one element per lane, the lanes of `l` in turn, leaves an element no lane of `l` names as it was. -/
theorem fold_miss {α : Type} (i : Fin (d 0) → s.Idx) (w : Fin (d 0) → α) (j : s.Idx) (l : List (Fin (d 0)))
    (h : ∀ k ∈ l, ¬ ∀ a, (j a).val = (i k a).val) (g : s.Idx → α) :
    l.foldl (fun g k => fun j => if (∀ a, (j a).val = (i k a).val) then w k else g j) g j = g j := by
  induction l generalizing g with
  | nil => rfl
  | cons k l ih =>
    rw [List.foldl_cons, ih (fun k' hk' => h k' (List.mem_cons_of_mem _ hk')), if_neg (h k List.mem_cons_self)]

/-- Writing one element per lane, no two lanes naming one element, leaves the named element at its lane's value. -/
theorem fold_hit {α : Type} (i : Fin (d 0) → s.Idx) (w : Fin (d 0) → α) (j : s.Idx) (k₀ : Fin (d 0)) (l : List (Fin (d 0)))
    (hk₀ : k₀ ∈ l) (hj : ∀ a, (j a).val = (i k₀ a).val) (hu : ∀ k, (∀ a, (j a).val = (i k a).val) → k = k₀) (g : s.Idx → α) :
    l.foldl (fun g k => fun j => if (∀ a, (j a).val = (i k a).val) then w k else g j) g j = w k₀ := by
  induction l generalizing g with
  | nil => cases hk₀
  | cons k l ih =>
    rw [List.foldl_cons]
    by_cases hm : k₀ ∈ l
    · exact ih hm _
    · obtain rfl : k₀ = k := (List.mem_cons.mp hk₀).resolve_right hm
      rw [fold_miss i w j l (fun k' hk' hh => hm (hu k' hh ▸ hk')), if_pos hj]

variable [FloatOps F]

/-- An unmasked lane store that adds nothing writes one element per lane, the lanes in turn. -/
theorem storeIdx_fold (f : Vec F s e) (idxs : Fin s.rank → IVec ⟨1, d⟩ 32) (v : Vec F ⟨1, d⟩ e)
    (h : ∀ a x, (idxs a x).toNat < s.size a) :
    storeIdx f idxs v (fun _ => 1#1) false h
      = (List.finRange (d 0)).foldl (fun g k => fun j => if (∀ a, (j a).val = (idxAt idxs h (Shape.ofLane k) a).val) then v (Shape.ofLane k) else g j) f := by
  unfold storeIdx
  simp only [Bool.false_eq_true, if_false]
  rfl

/-- An element no lane names keeps its value. -/
theorem storeIdx_miss (f : Vec F s e) (idxs : Fin s.rank → IVec ⟨1, d⟩ 32) (v : Vec F ⟨1, d⟩ e)
    (h : ∀ a x, (idxs a x).toNat < s.size a) (j : s.Idx) (hj : ∀ x, ¬ ∀ a, (j a).val = (idxs a x).toNat) :
    storeIdx f idxs v (fun _ => 1#1) false h j = f j := by
  rw [storeIdx_fold]
  exact fold_miss (fun k => idxAt idxs h (Shape.ofLane k)) (fun k => v (Shape.ofLane k)) j _ (fun k _ => hj (Shape.ofLane k)) f

/-- An element one lane names holds that lane's value. -/
theorem storeIdx_hit (f : Vec F s e) (idxs : Fin s.rank → IVec ⟨1, d⟩ 32) (v : Vec F ⟨1, d⟩ e)
    (h : ∀ a x, (idxs a x).toNat < s.size a) (j : s.Idx) (x₀ : (⟨1, d⟩ : Shape).Idx) (hj : ∀ a, (j a).val = (idxs a x₀).toNat)
    (hu : ∀ x, (∀ a, (j a).val = (idxs a x).toNat) → x = x₀) :
    storeIdx f idxs v (fun _ => 1#1) false h j = v x₀ := by
  have hx : Shape.ofLane (x₀ 0) = x₀ := flat_ext rfl
  rw [storeIdx_fold]
  refine (fold_hit (fun k => idxAt idxs h (Shape.ofLane k)) (fun k => v (Shape.ofLane k)) j (x₀ 0) _ (List.mem_finRange _)
    (fun a => ?_) (fun k hk => ?_) f).trans (congrArg v hx)
  · show (j a).val = (idxs a (Shape.ofLane (x₀ 0))).toNat
    rw [hx]; exact hj a
  · have := congrFun (hu (Shape.ofLane k) hk) 0
    exact this

end Store

/-! ## One step of sixteen rows -/

section Step

variable [FloatOps F]

/-- The staging buffer after one step: if it held the products up to entry `32 * t`, and the step stores the first-column
    products of rows `16 * t … 16 * t + 15` at their places and then the second-column products at theirs, it holds the products
    up to entry `32 * (t + 1)`. -/
theorem step_holds (g : ℕ → F .f32) (t : ℕ) (f : Vec F ⟨1, ![4000]⟩ .f32) (i₁ i₂ : IVec ⟨1, ![16]⟩ 32) (v₁ v₂ : Vec F ⟨1, ![16]⟩ .f32)
    (h₁ : ∀ a x, ((![i₁] : Fin 1 → IVec ⟨1, ![16]⟩ 32) a x).toNat < (⟨1, ![4000]⟩ : Shape).size a)
    (h₂ : ∀ a x, ((![i₂] : Fin 1 → IVec ⟨1, ![16]⟩ 32) a x).toNat < (⟨1, ![4000]⟩ : Shape).size a)
    (e₁ : ∀ x, (i₁ x).toNat = 2 * (x 0).val + 32 * t) (e₂ : ∀ x, (i₂ x).toNat = 2 * (x 0).val + 32 * t + 1)
    (w₁ : ∀ x, v₁ x = prodAt g (2 * (x 0).val + 32 * t)) (w₂ : ∀ x, v₂ x = prodAt g (2 * (x 0).val + 32 * t + 1))
    (hf : ∀ y : (⟨1, ![4000]⟩ : Shape).Idx, (y 0).val < 32 * t → f y = prodAt g (y 0).val)
    (y : (⟨1, ![4000]⟩ : Shape).Idx) (hy : (y 0).val < 32 * (t + 1)) :
    storeIdx (storeIdx f ![i₁] v₁ (fun _ => 1#1) false h₁) ![i₂] v₂ (fun _ => 1#1) false h₂ y = prodAt g (y 0).val := by
  have n₁ (x : (⟨1, ![16]⟩ : Shape).Idx) (a : Fin 1) : ((![i₁] : Fin 1 → IVec ⟨1, ![16]⟩ 32) a x).toNat = 2 * (x 0).val + 32 * t := by
    rw [Subsingleton.elim a 0]; exact e₁ x
  have n₂ (x : (⟨1, ![16]⟩ : Shape).Idx) (a : Fin 1) : ((![i₂] : Fin 1 → IVec ⟨1, ![16]⟩ 32) a x).toNat = 2 * (x 0).val + 32 * t + 1 := by
    rw [Subsingleton.elim a 0]; exact e₂ x
  have lane (x : (⟨1, ![16]⟩ : Shape).Idx) : (x 0).val < 16 := (x 0).isLt
  -- the second store's place, if it is one
  by_cases c₂ : 32 * t ≤ (y 0).val ∧ (y 0).val % 2 = 1
  · have hk : ((y 0).val - 32 * t) / 2 < 16 := by omega
    have hp := pos_val (n := 16) (by omega) hk
    rw [storeIdx_hit _ _ _ _ y (pos 16 (by omega) (((y 0).val - 32 * t) / 2))
      (fun a => by rw [n₂, hp, Subsingleton.elim a 0]; omega)
      (fun x hx => flat_ext (by have := hx 0; rw [n₂] at this; rw [hp]; omega)), w₂, hp]
    congr 1; omega
  rw [storeIdx_miss _ _ _ _ y (fun x hx => by have := hx 0; rw [n₂] at this; exact c₂ ⟨by omega, by omega⟩)]
  by_cases c₁ : 32 * t ≤ (y 0).val
  · have hk : ((y 0).val - 32 * t) / 2 < 16 := by omega
    have hp := pos_val (n := 16) (by omega) hk
    rw [storeIdx_hit _ _ _ _ y (pos 16 (by omega) (((y 0).val - 32 * t) / 2))
      (fun a => by rw [n₁, hp, Subsingleton.elim a 0]; omega)
      (fun x hx => flat_ext (by have := hx 0; rw [n₁] at this; rw [hp]; omega)), w₁, hp]
    congr 1; omega
  rw [storeIdx_miss _ _ _ _ y (fun x hx => by have := hx 0; rw [n₁] at this; omega)]
  exact hf y (by omega)

/-- A lane load reads the entry its index names. -/
theorem loadIdx_at (f : Vec F ⟨1, ![10000]⟩ .f32) (i : IVec ⟨1, ![16]⟩ 32)
    (h : ∀ a x, ((![i] : Fin 1 → IVec ⟨1, ![16]⟩ 32) a x).toNat < (⟨1, ![10000]⟩ : Shape).size a) (x : (⟨1, ![16]⟩ : Shape).Idx) :
    loadIdx f ![i] h x = f (pos 10000 (by omega) (i x).toNat) :=
  congrArg f (flat_ext (pos_val (n := 10000) (by omega) (h 0 x)).symm)

end Step

end Cert.Proof.SegProd

end
-- ==== Proof.KernelIdealRun.lean ====
/-
  The kernel program's run: two SparseCores of sixteen subcores each, every subcore taking its 200000 rows in 100 rounds of
  2000. A round copies 10000 entries of the flat input into the first scratch buffer, forms the products of 16 rows at a time
  by indexed loads and indexed stores into the second, and copies those 4000 entries out to the flat result. The proof carries
  the values: after round `t` a subcore's part of the flat result holds the products up to round `t`.
-/
module

public import proofs.«01_k».proof.Defs
public import proofs.«01_k».proof.Proof.SegProd
public import Idealize.ShloMosaic.Lib.SparseCore.Quiescent
public import Idealize.ShloMosaic.Lib.SparseCore.FromWhole
public import Idealize.ShloMosaic.Lib.SparseCore.Ops
public import Idealize.ShloMosaic.Lib.StableHlo.Run
public import Idealize.ShloMosaic.Lib.Pipeline.Kit
public import Idealize.ShloMosaic.Lib.Pipeline.ValueKit.Geometry
public import Idealize.ShloMosaic.Lib.WordArith.Masks
public import Idealize.ShloMosaic.Lib.Ring
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.KernelIdealRun

open Cert.KernelIdeal Cert.KernelIdeal.Gen
open Cert.Proof.SegProd

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: its four semaphores are apart and unscoped, and no buffer of a SparseCore is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers and the values -/

variable (m : (ℓ : Loc nD τ sig) → Buf (Elt F) ℓ) (ρ : Dev nD → PrngReg)

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "xV" => (Memref.whole Cert.KernelIdeal.main_v0_scv : Memref Cert.KernelIdeal.sig Kind.scVector Space.hbm Cert.KernelIdeal.S32000000 EltTy.f32)
local notation "oV" => (Memref.whole Cert.KernelIdeal.main_v1_scv : Memref Cert.KernelIdeal.sig Kind.scVector Space.hbm Cert.KernelIdeal.S12800000 EltTy.f32)
local notation "sA" => (Memref.whole Cert.KernelIdeal.cc0_scratch0 : Memref Cert.KernelIdeal.sig Kind.scVector Space.vmem Cert.KernelIdeal.S10000 EltTy.f32)
local notation "sB" => (Memref.whole Cert.KernelIdeal.cc0_scratch1 : Memref Cert.KernelIdeal.sig Kind.scVector Space.vmem Cert.KernelIdeal.S4000 EltTy.f32)

/-- The flat input: the argument's entries, row after row. -/
def flatX (d : Dev nD) : Buf (Elt F) (xLoc d) := shapeCast S32000000 (m (aLoc d)) shapeCasts_S6400000x5_S32000000

/-- Entry `k` of the flat input. -/
def xAt (d : Dev nD) (k : ℕ) : F .f32 := flatX m d (pos 32000000 (by omega) k)

variable [FloatOps F]

/-- The flat result: the products of the flat input. -/
def flatG (d : Dev nD) : Buf (Elt F) (oLoc d) := fun j => prodAt (xAt m d) (j 0).val

/-- The result: the flat result as two columns. -/
def resG (d : Dev nD) : Buf (Elt F) (rLoc d) := shapeCast S6400000x2 (flatG m d) shapeCasts_S12800000_S6400000x2

/-! ## The parts of the flat result -/

omit m ρ [FloatOps F] in
/-- The entries of the flat result that worker `w` writes: the `w`-th run of 400000. -/
@[irreducible] def part (w : ℕ) : Finset S12800000.Idx := Finset.univ.filter fun j => (j 0).val / 400000 = w

omit m ρ [FloatOps F] in
theorem mem_part {w : ℕ} {j : S12800000.Idx} : j ∈ part w ↔ (j 0).val / 400000 = w := by
  unfold part
  exact Finset.mem_filter.trans (and_iff_right (Finset.mem_univ j))

omit m ρ [FloatOps F] in
/-- The entries SparseCore `c` writes: those of its sixteen workers. -/
@[irreducible] def coreSet (c : ℕ) : Finset S12800000.Idx := Finset.univ.biUnion fun i : Fin 16 => part (2 * i.val + c)

omit m ρ [FloatOps F] in
theorem mem_coreSet {c : ℕ} {j : S12800000.Idx} : j ∈ coreSet c ↔ ∃ i : Fin 16, (j 0).val / 400000 = 2 * i.val + c := by
  unfold coreSet
  simp only [Finset.mem_biUnion, Finset.mem_univ, true_and, mem_part]

omit m ρ [FloatOps F] in
theorem part_disjoint {v w : ℕ} (h : v ≠ w) : Disjoint (part v) (part w) :=
  Finset.disjoint_left.mpr fun _ hv hw => h ((mem_part.mp hv).symm.trans (mem_part.mp hw))

omit m ρ [FloatOps F] in
theorem coreSet_cover : (Finset.univ : Finset (Fin 2)).biUnion (fun c => coreSet c.val) = (Finset.univ : Finset S12800000.Idx) := by
  refine Finset.eq_univ_of_forall fun j => ?_
  have hj : (j 0).val < 12800000 := (j 0).isLt
  refine Finset.mem_biUnion.mpr ⟨⟨(j 0).val / 400000 % 2, by omega⟩, Finset.mem_univ _, mem_coreSet.mpr ⟨⟨(j 0).val / 400000 / 2, by omega⟩, ?_⟩⟩
  show (j 0).val / 400000 = 2 * ((j 0).val / 400000 / 2) + (j 0).val / 400000 % 2
  omega

omit m ρ [FloatOps F] in
theorem coreSet_disjoint : ∀ c ∈ (Finset.univ : Finset (Fin 2)), ∀ c' ∈ (Finset.univ : Finset (Fin 2)), c ≠ c' → Disjoint (coreSet c.val) (coreSet c'.val) := by
  intro c _ c' _ h
  refine Finset.disjoint_left.mpr fun j hj hj' => ?_
  obtain ⟨i, hi⟩ := mem_coreSet.mp hj
  obtain ⟨i', hi'⟩ := mem_coreSet.mp hj'
  have := c.isLt; have := c'.isLt
  exact h (Fin.ext (by omega))

/-! ## Read shares -/

omit m ρ [FloatOps F] in
/-- What is left of share `q` after `k` halves have been given away. -/
def rest (q : PosShare TreeShare) : ℕ → PosShare TreeShare
  | 0 => q
  | k + 1 => (rest q k).right

omit m ρ [FloatOps F] in
/-- The `k`-th half given away of share `q`. -/
def given (q : PosShare TreeShare) (k : ℕ) : PosShare TreeShare := (rest q k).left

omit ρ [FloatOps F] in
/-- Holding elements at a share gives them at `n` shares at once. -/
theorem pointsTo_given {ℓ : Loc nD τ sig} (I : Finset (Idx ℓ)) (f : Buf (Elt F) ℓ) (q : PosShare TreeShare) (n : ℕ) :
    (ℓ ↦[I]{q} f : sProp 𝕄) ⊢ iprop((bigSep (Finset.range n) fun k => ℓ ↦[I]{given q k} f) ∗ ℓ ↦[I]{rest q n} f) := by
  induction n with
  | zero =>
    rw [Finset.range_zero, bigSep_empty]
    iintro H
    isplitr; · iempintro
    iexact H
  | succ n ih =>
    refine ih.trans ?_
    rw [Finset.range_add_one, SparseCore.bigSep_insert' Finset.notMem_range_self]
    iintro ⟨Hs, Hr⟩
    ihave H := (pointsTo_share (PosShare.mem_left_op_right (rest q n))).1 $$ Hr
    icases H with ⟨Hl, Hr⟩
    isplitl [Hs Hl]
    · isplitl [Hl]; · iexact Hl
      iexact Hs
    iexact Hr

omit ρ [FloatOps F] in
/-- The same over the numbers below `n` as a finite type, the remainder given up. -/
theorem pointsTo_given_fin {ℓ : Loc nD τ sig} (I : Finset (Idx ℓ)) (f : Buf (Elt F) ℓ) (q : PosShare TreeShare) (n : ℕ) :
    (ℓ ↦[I]{q} f : sProp 𝕄) ⊢ bigSep Finset.univ fun k : Fin n => ℓ ↦[I]{given q k.val} f := by
  refine (pointsTo_given I f q n).trans (sep_elim_left.trans (Entails.of_eq ?_))
  exact (Ring.bigSep_fin_eq_range n (fun k : Fin n => (ℓ ↦[I]{given q k.val} f : sProp 𝕄)) (fun k => ℓ ↦[I]{given q k} f) fun _ _ => rfl).symm

/-- SparseCore `c`'s share of the flat input, and worker `(c, i)`'s. -/
abbrev qC (c : ℕ) : PosShare TreeShare := given fullShare c
abbrev qT (c i : ℕ) : PosShare TreeShare := given (qC c) i

/-! ## What the handshakes carry -/

abbrev xPts (d : Dev nD) (q : PosShare TreeShare) : sProp 𝕄 := xLoc d ↦{q} flatX m d
abbrev oPts (d : Dev nD) (I : Finset S12800000.Idx) (f : Buf (Elt F) (oLoc d)) : sProp 𝕄 := oLoc d ↦[I]{fullShare} f

/-- The call hands each SparseCore a share of the flat input and its part of the flat result, and takes that part back holding
    the products; a SparseCore does the same with its sixteen workers. -/
def P : (K (F := F)).Pay (nD := nD) (Val := Elt F) (Name := ℕ) (U := UU) where
  st := fun _ d c => iprop(xPts m d (qC c.val) ∗ oPts d (coreSet c.val) (m (oLoc d)))
  dn := fun _ d c => oPts d (coreSet c.val) (flatG m d)
  go := fun _ d c i => iprop(xPts m d (qT c.val i.val) ∗ oPts d (part (2 * i.val + c.val)) (m (oLoc d)))
  td := fun _ d c i => oPts d (part (2 * i.val + c.val)) (flatG m d)
  x := fun _ _ => iprop(emp)

instance P_storable : (P (F := F) m).IsStorable where
  st _ d c := by unfold P; infer_instance
  dn _ d c := by unfold P; infer_instance
  go _ d c i := by unfold P; infer_instance
  td _ d c i := by unfold P; infer_instance

/-! ## One step of sixteen rows -/

omit m ρ [FloatOps F] in
theorem trips1 : k0_t1_loop.trips = 100 := by decide
omit m ρ [FloatOps F] in
theorem trips2 : k0_t2_loop.trips = 125 := by decide

omit m ρ [FloatOps F] in
/-- Lane `x` of the lane numbers. -/
theorem iota_toNat (x : S16.Idx) : (iota .scVector S16 32 [0] iota_S16_d0_w32_scVector x).toNat = (x 0).val := by
  have hx : (x 0).val < 16 := (x 0).isLt
  show (BitVec.ofNat 32 (0 * S16.size 0 + (x 0).val)).toNat = _
  rw [Nat.zero_mul, Nat.zero_add, BitVec.toNat_ofNat]
  omega

section Step

variable (t : Fin k0_t2_loop.trips)

omit m ρ [FloatOps F] in
theorem iv_toNat : (Scf.iv 0#32 1#32 t.val).toNat = t.val :=
  WordArith.toNat_iv_zero_one _ (by have := t.isLt.trans_eq trips2; omega)

omit m ρ [FloatOps F] in
/-- The five loads of step `t`: lane `x` reads entries `5 * x + 80 * t` to `5 * x + 80 * t + 4`, -/
theorem pay1_toNat (x : S16.Idx) : (k0_pay1 t x).toNat = 5 * (x 0).val + 80 * t.val := by
  have hx : (x 0).val < 16 := (x 0).isLt
  have ht : t.val < 125 := t.isLt.trans_eq trips2
  show (iota .scVector S16 32 [0] iota_S16_d0_w32_scVector x * 5#32 + Scf.iv 0#32 1#32 t.val * 80#32).toNat = _
  rw [BitVec.toNat_add, BitVec.toNat_mul, BitVec.toNat_mul, iota_toNat, iv_toNat]
  simp only [BitVec.toNat_ofNat]
  omega

omit m ρ [FloatOps F] in
theorem pay2_toNat (x : S16.Idx) : (k0_pay2 (k0_pay1 t) x).toNat = 5 * (x 0).val + 80 * t.val + 1 := by
  have hx : (x 0).val < 16 := (x 0).isLt
  have ht : t.val < 125 := t.isLt.trans_eq trips2
  show (k0_pay1 t x + 1#32).toNat = _
  rw [BitVec.toNat_add, pay1_toNat]
  simp only [BitVec.toNat_ofNat]
  omega

omit m ρ [FloatOps F] in
theorem pay3_toNat (x : S16.Idx) : (k0_pay3 (k0_pay1 t) x).toNat = 5 * (x 0).val + 80 * t.val + 2 := by
  have hx : (x 0).val < 16 := (x 0).isLt
  have ht : t.val < 125 := t.isLt.trans_eq trips2
  show (k0_pay1 t x + 2#32).toNat = _
  rw [BitVec.toNat_add, pay1_toNat]
  simp only [BitVec.toNat_ofNat]
  omega

omit m ρ [FloatOps F] in
theorem pay4_toNat (x : S16.Idx) : (k0_pay4 (k0_pay1 t) x).toNat = 5 * (x 0).val + 80 * t.val + 3 := by
  have hx : (x 0).val < 16 := (x 0).isLt
  have ht : t.val < 125 := t.isLt.trans_eq trips2
  show (k0_pay1 t x + 3#32).toNat = _
  rw [BitVec.toNat_add, pay1_toNat]
  simp only [BitVec.toNat_ofNat]
  omega

omit m ρ [FloatOps F] in
theorem pay5_toNat (x : S16.Idx) : (k0_pay5 (k0_pay1 t) x).toNat = 5 * (x 0).val + 80 * t.val + 4 := by
  have hx : (x 0).val < 16 := (x 0).isLt
  have ht : t.val < 125 := t.isLt.trans_eq trips2
  show (k0_pay1 t x + 4#32).toNat = _
  rw [BitVec.toNat_add, pay1_toNat]
  simp only [BitVec.toNat_ofNat]
  omega

omit m ρ [FloatOps F] in
/-- and its two stores write entries `2 * x + 32 * t` and `2 * x + 32 * t + 1`. -/
theorem pay6_toNat (x : S16.Idx) : (k0_pay6 t x).toNat = 2 * (x 0).val + 32 * t.val := by
  have hx : (x 0).val < 16 := (x 0).isLt
  have ht : t.val < 125 := t.isLt.trans_eq trips2
  show (iota .scVector S16 32 [0] iota_S16_d0_w32_scVector x * 2#32 + Scf.iv 0#32 1#32 t.val * 32#32).toNat = _
  rw [BitVec.toNat_add, BitVec.toNat_mul, BitVec.toNat_mul, iota_toNat, iv_toNat]
  simp only [BitVec.toNat_ofNat]
  omega

omit m ρ [FloatOps F] in
theorem pay8_toNat (x : S16.Idx) : (k0_pay8 (k0_pay6 t) x).toNat = 2 * (x 0).val + 32 * t.val + 1 := by
  have hx : (x 0).val < 16 := (x 0).isLt
  have ht : t.val < 125 := t.isLt.trans_eq trips2
  show (k0_pay6 t x + 1#32).toNat = _
  rw [BitVec.toNat_add, pay6_toNat]
  simp only [BitVec.toNat_ofNat]
  omega

omit m ρ [FloatOps F] in
/-- An index vector whose lanes are all below a flat buffer's length is in range. -/
theorem inRange {n : ℕ} {v : IVec S16 32} (h : ∀ x, (v x).toNat < n) :
    ∀ (a : Fin 1) (x : S16.Idx), ((![v] : Fin 1 → IVec S16 32) a x).toNat < (⟨1, ![n]⟩ : Shape).size a := by
  intro a x
  rw [Subsingleton.elim a 0]
  exact h x

omit m ρ [FloatOps F] in
theorem bounds (x : S16.Idx) : (x 0).val < 16 ∧ t.val < 125 := ⟨(x 0).isLt, t.isLt.trans_eq trips2⟩

omit m ρ [FloatOps F] in
theorem chk1 : k0_chk1 (k0_pay1 t) := inRange (n := 10000) fun x => by have := bounds t x; rw [pay1_toNat]; omega
omit m ρ [FloatOps F] in
theorem chk2 : k0_chk2 (k0_pay2 (k0_pay1 t)) := inRange (n := 10000) fun x => by have := bounds t x; rw [pay2_toNat]; omega
omit m ρ [FloatOps F] in
theorem chk3 : k0_chk3 (k0_pay3 (k0_pay1 t)) := inRange (n := 10000) fun x => by have := bounds t x; rw [pay3_toNat]; omega
omit m ρ [FloatOps F] in
theorem chk4 : k0_chk4 (k0_pay4 (k0_pay1 t)) := inRange (n := 10000) fun x => by have := bounds t x; rw [pay4_toNat]; omega
omit m ρ [FloatOps F] in
theorem chk5 : k0_chk5 (k0_pay5 (k0_pay1 t)) := inRange (n := 10000) fun x => by have := bounds t x; rw [pay5_toNat]; omega
omit m ρ [FloatOps F] in
theorem chk6 : k0_chk6 (k0_pay6 t) := inRange (n := 4000) fun x => by have := bounds t x; rw [pay6_toNat]; omega
omit m ρ [FloatOps F] in
theorem chk7 : k0_chk7 (k0_pay8 (k0_pay6 t)) := inRange (n := 4000) fun x => by have := bounds t x; rw [pay8_toNat]; omega

end Step

section Tile

variable (d : Dev nD) (L : grid0.Coords)

abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

/-- Entry `k` of what the first scratch buffer holds. -/
def atA (g : Buf (Elt F) ((tV d L).loc cc0_scratch0)) (k : ℕ) : F .f32 := g (pos 10000 (by omega) k)

/-- The second scratch buffer holds the products of the first's entries up to entry `n`. -/
def HoldsB (g : Buf (Elt F) ((tV d L).loc cc0_scratch0)) (n : ℕ) (f : Buf (Elt F) ((tV d L).loc cc0_scratch1)) : Prop :=
  ∀ y : S4000.Idx, (y 0).val < n → f y = prodAt (atA d L g) (y 0).val

/-- Before step `t` of a round: the first scratch buffer as fetched, the second holding the products up to entry `32 * t`. -/
def invB (g : Buf (Elt F) ((tV d L).loc cc0_scratch0)) (t : ℕ) (_ : PUnit) : sProp 𝕄 :=
  iprop(((tV d L).loc cc0_scratch0 ↦{fullShare} g) ∗ ∃ f, ⌜HoldsB d L g (32 * t) f⌝ ∗ (tV d L).loc cc0_scratch1 ↦{fullShare} f)

/-- What a step leaves in the second scratch buffer. -/
theorem holdsB_step (g : Buf (Elt F) ((tV d L).loc cc0_scratch0)) (t : Fin k0_t2_loop.trips) (f : Buf (Elt F) ((tV d L).loc cc0_scratch1))
    (hf : HoldsB d L g (32 * t.val) f) (v17 v20 v23 v26 v29 : Vec F S16 .f32)
    (h17 : v17 = loadIdx (s := S10000) (t := S16) (e := .f32) (F := F) g ![k0_pay1 t] (k0_idx1_inb _ (chk1 t)))
    (h20 : v20 = loadIdx (s := S10000) (e := .f32) (F := F) g ![k0_pay2 (k0_pay1 t)] (k0_idx2_inb _ (chk2 t)))
    (h23 : v23 = loadIdx (s := S10000) (e := .f32) (F := F) g ![k0_pay3 (k0_pay1 t)] (k0_idx3_inb _ (chk3 t)))
    (h26 : v26 = loadIdx (s := S10000) (e := .f32) (F := F) g ![k0_pay4 (k0_pay1 t)] (k0_idx4_inb _ (chk4 t)))
    (h29 : v29 = loadIdx (s := S10000) (e := .f32) (F := F) g ![k0_pay5 (k0_pay1 t)] (k0_idx5_inb _ (chk5 t))) :
    HoldsB d L g (32 * (t.val + 1))
      (storeIdx (s := S4000) (e := .f32) (F := F)
        (storeIdx (s := S4000) (e := .f32) (F := F) f ![k0_pay6 t] (k0_pay7 v17 v20 v23) (fun _ => 1#1) false (k0_idx6_inb _ (chk6 t)))
        ![k0_pay8 (k0_pay6 t)] (k0_pay9 v26 v29) (fun _ => 1#1) false (k0_idx7_inb _ (chk7 t))) := by
  intro y hy
  have rd (x : S16.Idx) (v : IVec S16 32) (hv) (k : ℕ) (hk : (v x).toNat = 5 * ((x 0).val + 16 * t.val) + k) :
      loadIdx (s := S10000) (e := .f32) (F := F) g ![v] hv x = atA d L g (5 * ((x 0).val + 16 * t.val) + k) :=
    (loadIdx_at g v hv x).trans (by rw [hk]; rfl)
  have r17 (x : S16.Idx) : v17 x = atA d L g (5 * ((x 0).val + 16 * t.val)) := by rw [h17]; exact rd x _ _ 0 (by rw [pay1_toNat]; omega)
  have r20 (x : S16.Idx) : v20 x = atA d L g (5 * ((x 0).val + 16 * t.val) + 1) := by rw [h20]; exact rd x _ _ 1 (by rw [pay2_toNat]; omega)
  have r23 (x : S16.Idx) : v23 x = atA d L g (5 * ((x 0).val + 16 * t.val) + 2) := by rw [h23]; exact rd x _ _ 2 (by rw [pay3_toNat]; omega)
  have r26 (x : S16.Idx) : v26 x = atA d L g (5 * ((x 0).val + 16 * t.val) + 3) := by rw [h26]; exact rd x _ _ 3 (by rw [pay4_toNat]; omega)
  have r29 (x : S16.Idx) : v29 x = atA d L g (5 * ((x 0).val + 16 * t.val) + 4) := by rw [h29]; exact rd x _ _ 4 (by rw [pay5_toNat]; omega)
  refine step_holds (atA d L g) t.val f _ _ _ _ _ _ (pay6_toNat t) (pay8_toNat t) (fun x => ?_) (fun x => ?_) hf y hy
  · rw [show 2 * (x 0).val + 32 * t.val = 2 * ((x 0).val + 16 * t.val) by omega, prodAt_even, ← r17, ← r20, ← r23]
    rfl
  · rw [show 2 * (x 0).val + 32 * t.val + 1 = 2 * ((x 0).val + 16 * t.val) + 1 by omega, prodAt_odd, ← r26, ← r29]
    rfl

omit m ρ [FloatOps F] in
theorem setA : ((sA).access (.whole S10000)).set = Finset.univ := Memref.set_access_whole _
omit m ρ [FloatOps F] in
theorem setB : ((sB).access (.whole S4000)).set = Finset.univ := Memref.set_access_whole _

/-- One step of a round: five indexed loads, the products, two indexed stores. -/
theorem step_body (g : Buf (Elt F) ((tV d L).loc cc0_scratch0)) (t : Fin k0_t2_loop.trips) (acc : PUnit) :
    invB d L g t.val acc
      ⊢ wp frame (wpE (defs₀ (F := F)) 𝒱₀ (tV d L) none) Set.univ
          (k0_t2_body (F := F) L xV (Memref.isWhole_whole _) oV (Memref.isWhole_whole _) sA (Memref.isWhole_whole _) sB (Memref.isWhole_whole _)
            cc0_scoped0 cc0_scoped1 t acc)
          (invB d L g (t.val + 1)) := by
  unfold k0_t2_body
  simp only [Prog.lift, Prog.bind_op, Prog.bind_ret, Prog.pure_eq_ret]
  unfold invB
  iintro ⟨Ha, %f, %hf, Hb⟩
  ihave Ha := (Entails.of_eq (show ((tV d L).loc cc0_scratch0 ↦{fullShare} g : sProp 𝕄) = ((sA).access (.whole S10000)).loc (tV d L) ↦{fullShare} g from rfl)) $$ Ha
  rw [wp_assume_of 𝒱₀ (tV d L) none Set.univ (chk1 t)]
  iapply (SparseCore.wp_vectorLoadIdx 𝒱₀ (tV d L) none Set.univ (base := sA) (Finset.subset_univ _)) $$ Ha
  iintro Ha
  rw [wp_assume_of 𝒱₀ (tV d L) none Set.univ (chk2 t)]
  iapply (SparseCore.wp_vectorLoadIdx 𝒱₀ (tV d L) none Set.univ (base := sA) (Finset.subset_univ _)) $$ Ha
  iintro Ha
  rw [wp_assume_of 𝒱₀ (tV d L) none Set.univ (chk3 t)]
  iapply (SparseCore.wp_vectorLoadIdx 𝒱₀ (tV d L) none Set.univ (base := sA) (Finset.subset_univ _)) $$ Ha
  iintro Ha
  rw [wp_assume_of 𝒱₀ (tV d L) none Set.univ (chk4 t)]
  iapply (SparseCore.wp_vectorLoadIdx 𝒱₀ (tV d L) none Set.univ (base := sA) (Finset.subset_univ _)) $$ Ha
  iintro Ha
  rw [wp_assume_of 𝒱₀ (tV d L) none Set.univ (chk5 t)]
  iapply (SparseCore.wp_vectorLoadIdx 𝒱₀ (tV d L) none Set.univ (base := sA) (Finset.subset_univ _)) $$ Ha
  iintro Ha
  ihave Hb := (Entails.of_eq (show ((tV d L).loc cc0_scratch1 ↦{fullShare} f : sProp 𝕄)
      = (((sB).access (.whole S4000)).loc (tV d L) ↦[((sB).access (.whole S4000)).set]{fullShare} f) by rw [setB])) $$ Hb
  rw [wp_assume_of 𝒱₀ (tV d L) none Set.univ (chk6 t)]
  iapply (SparseCore.wp_vectorStoreIdx 𝒱₀ (tV d L) none Set.univ (base := sB)) $$ Hb
  iintro Hb
  rw [wp_assume_of 𝒱₀ (tV d L) none Set.univ (chk7 t)]
  iapply (SparseCore.wp_vectorStoreIdx 𝒱₀ (tV d L) none Set.univ (base := sB)) $$ Hb
  iintro Hb
  rw [wp_ret]
  imodintro
  isplitl [Ha]; · iexact Ha
  simp only [Memref.read_access_whole, Memref.write_access_whole_univ, Memref.set_access_whole]
  iexists _
  isplitr
  swap; · iexact Hb
  ipureintro
  exact holdsB_step d L g t f hf _ _ _ _ _ rfl rfl rfl rfl rfl

/-! ## One round -/

/-- Worker `L`'s number. -/
abbrev wid (L : grid0.Coords) : ℕ := 2 * (L 1).val + (L 0).val

/-- Round `t`'s part of the flat input, and of the flat result. -/
abbrev xK (L : grid0.Coords) (t : Fin k0_t1_loop.trips) : Memref sig .scVector .hbm S10000 .f32 :=
  (xV).slice (Rect.unit (s := S32000000) (k0_off1 L t) S10000.size (k0_off1_inb L t)) (fun _ => rfl)
abbrev oK (L : grid0.Coords) (t : Fin k0_t1_loop.trips) : Memref sig .scVector .hbm S4000 .f32 :=
  (oV).slice (Rect.unit (s := S12800000) (k0_off2 L t) S4000.size (k0_off2_inb L t)) (fun _ => rfl)

/-- What round `t` fetches into the first scratch buffer. -/
def fetched (t : Fin k0_t1_loop.trips) : Buf (Elt F) ((tV d L).loc cc0_scratch0) := (xK L t).view.read (Elt F) (flatX m d)

omit ρ [FloatOps F] in
theorem off1_zero (t : Fin k0_t1_loop.trips) : k0_off1 L t 0 = 5 * (200000 * wid L + 2000 * t.val) := by
  rw [k0_off1_eq]
  show 2000000 * (L 1).val + 1000000 * (L 0).val + 10000 * t.val = 5 * (200000 * (2 * (L 1).val + (L 0).val) + 2000 * t.val)
  omega

omit ρ [FloatOps F] in
theorem off2_zero (t : Fin k0_t1_loop.trips) : k0_off2 L t 0 = 2 * (200000 * wid L + 2000 * t.val) := by
  rw [k0_off2_eq]
  show 800000 * (L 1).val + 400000 * (L 0).val + 4000 * t.val = 2 * (200000 * (2 * (L 1).val + (L 0).val) + 2000 * t.val)
  omega

omit ρ [FloatOps F] in
theorem wid_bounds (t : Fin k0_t1_loop.trips) : wid L < 32 ∧ t.val < 100 := by
  have h0 : (L 0).val < 2 := (L 0).isLt
  have h1 : (L 1).val < 16 := (L 1).isLt
  have ht : t.val < 100 := t.isLt.trans_eq trips1
  exact ⟨by show 2 * (L 1).val + (L 0).val < 32; omega, ht⟩

/-- Entry `k` of what round `t` fetches is entry `5 * (200000 * w + 2000 * t) + k` of the flat input. -/
theorem fetched_at (t : Fin k0_t1_loop.trips) (k : ℕ) (hk : k < 10000) :
    atA d L (fetched m d L t) k = xAt m d (5 * (200000 * wid L + 2000 * t.val) + k) := by
  obtain ⟨hw, ht⟩ := wid_bounds L t
  show fetched m d L t (pos 10000 (by omega) k) = flatX m d (pos 32000000 (by omega) (5 * (200000 * wid L + 2000 * t.val) + k))
  refine (show fetched m d L t (pos 10000 (by omega) k) = flatX m d ((xK L t).view.emb (pos 10000 (by omega) k)) from
    (View.read_apply _ _).trans (cast_eq _ _)).trans (congrArg (flatX m d) (flat_ext ?_))
  refine (ValueKit.view_emb_slice_whole_unit_val main_v0_scv (k0_off1 L t) S10000.size (k0_off1_inb L t) (pos 10000 (by omega) k) 0).trans ?_
  rw [off1_zero, pos_val (n := 10000) _ hk, pos_val (n := 32000000) _ (by omega)]

/-- Worker `L`'s part of the flat result holds the products in its first `n` entries. -/
def HoldsO (n : ℕ) (f : Buf (Elt F) (oLoc d)) : Prop :=
  ∀ j : S12800000.Idx, j ∈ part (wid L) → (j 0).val < 400000 * wid L + n → f j = flatG m d j

omit m ρ [FloatOps F] in
theorem mem_oK (t : Fin k0_t1_loop.trips) (j : S12800000.Idx) :
    j ∈ (oK L t).view.set ↔ 2 * (200000 * wid L + 2000 * t.val) ≤ (j 0).val ∧ (j 0).val < 2 * (200000 * wid L + 2000 * t.val) + 4000 := by
  refine (ValueKit.mem_set_slice_whole_iff main_v1_scv _ j Rect.mem_set_unit).trans ?_
  constructor
  · intro h
    have := h 0
    rw [off2_zero] at this
    exact this
  · intro h a
    obtain rfl : a = (0 : Fin 1) := Subsingleton.elim (α := Fin 1) a 0
    rw [off2_zero]
    exact h

omit m ρ [FloatOps F] in
/-- A round writes inside its worker's part. -/
theorem oK_subset (t : Fin k0_t1_loop.trips) : (oK L t).view.set ⊆ part (wid L) := by
  intro j hj
  obtain ⟨hw, ht⟩ := wid_bounds L t
  obtain ⟨h0, h1⟩ := (mem_oK L t j).mp hj
  exact mem_part.mpr (by omega)

/-- What a round leaves in its worker's part of the flat result. -/
theorem holdsO_step (t : Fin k0_t1_loop.trips) (f : Buf (Elt F) (oLoc d)) (hf : HoldsO m d L (4000 * t.val) f)
    (fb : Buf (Elt F) ((tV d L).loc cc0_scratch1)) (hb : HoldsB d L (fetched m d L t) 4000 fb) :
    HoldsO m d L (4000 * (t.val + 1)) ((oK L t).view.write (Elt F) f fb Finset.univ) := by
  intro j hj hlt
  obtain ⟨hw, ht⟩ := wid_bounds L t
  by_cases hs : j ∈ (oK L t).view.set
  · obtain ⟨h0, h1⟩ := (mem_oK L t j).mp hs
    obtain ⟨y, rfl⟩ : ∃ y, (oK L t).view.emb y = j := by
      obtain ⟨y, -, hy⟩ := Finset.mem_map.mp hs
      exact ⟨y, hy⟩
    have hy : ((oK L t).view.emb y 0).val = 2 * (200000 * wid L + 2000 * t.val) + (y 0).val := by
      refine (ValueKit.view_emb_slice_whole_unit_val main_v1_scv (k0_off2 L t) S4000.size (k0_off2_inb L t) y 0).trans ?_
      rw [off2_zero]
    have hy4 : (y 0).val < 4000 := (y 0).isLt
    refine (show (oK L t).view.write (Elt F) f fb Finset.univ ((oK L t).view.emb y) = fb y from
      (View.write_emb_of_mem _ _ (Finset.mem_univ y)).trans (cast_eq _ _)).trans ((hb y hy4).trans ?_)
    show _ = prodAt (xAt m d) ((oK L t).view.emb y 0).val
    rw [hy]
    have := prodAt_congr (g := atA d L (fetched m d L t)) (h := xAt m d) (a := 0) (b := 200000 * wid L + 2000 * t.val) (y := (y 0).val)
      (fun k hk => by rw [Nat.mul_zero, Nat.zero_add]; exact fetched_at m d L t _ (by omega))
    rwa [Nat.mul_zero, Nat.zero_add] at this
  · rw [View.write_of_not_mem _ _ _ (by rw [View.setOn_univ]; exact hs)]
    refine hf j hj ?_
    by_contra hge
    exact hs ((mem_oK L t j).mpr ⟨by omega, by omega⟩)

abbrev cellA (d : Dev nD) (L : grid0.Coords) : GSem nD τ sig := (tV d L, .dma cc0_scoped0.sem)
abbrev cellB (d : Dev nD) (L : grid0.Coords) : GSem nD τ sig := (tV d L, .dma cc0_scoped1.sem)

/-- Before round `t`: the share of the flat input, the two scratch buffers, the worker's part of the flat result holding the
    products of the rounds done, both semaphores at zero. -/
def invO (O : CellTallies nD τ sig (HIx 1)) (W : Waits sig (HIx 1)) (q : PosShare TreeShare) (t : ℕ) (_ : PUnit) : sProp 𝕄 :=
  iprop(Transfers.MayWaits (tV d L) (default : HIx 1) O ∗ (xLoc d ↦{q} flatX m d)
    ∗ (∃ f, (tV d L).loc cc0_scratch0 ↦{fullShare} f) ∗ (∃ f, (tV d L).loc cc0_scratch1 ↦{fullShare} f)
    ∗ (∃ f, ⌜HoldsO m d L (4000 * t) f⌝ ∗ oLoc d ↦[part (wid L)]{fullShare} f)
    ∗ semVal (cellA d L) 0 ∗ semVal (cellB d L) 0
    ∗ ∃ W', ⌜∀ p ∈ W', p ∈ W ∨ p.2 = none⌝ ∗ owes (tV d L) O W')

omit ρ [FloatOps F] in
theorem holdsB_zero (g : Buf (Elt F) ((tV d L).loc cc0_scratch0)) [FloatOps F] (f : Buf (Elt F) ((tV d L).loc cc0_scratch1)) :
    HoldsB d L g (32 * 0) f := fun y hy => absurd hy (by omega)

set_option maxHeartbeats 1000000 in
/-- One round: the copy in and its wait, the 125 steps, the copy out and its wait. -/
theorem round_body (O : CellTallies nD τ sig (HIx 1)) (W : Waits sig (HIx 1)) (q : PosShare TreeShare) (t : Fin k0_t1_loop.trips) (acc : PUnit) :
    invO m d L O W q t.val acc
      ⊢ wp frame (wpE (defs₀ (F := F)) 𝒱₀ (tV d L) none) Set.univ
          (k0_t1_body (F := F) L xV (Memref.isWhole_whole _) oV (Memref.isWhole_whole _) sA (Memref.isWhole_whole _) sB (Memref.isWhole_whole _)
            cc0_scoped0 cc0_scoped1 t acc)
          (invO m d L O W q (t.val + 1)) := by
  unfold k0_t1_body
  simp only [Prog.lift, Prog.bind_op, Prog.bind_ret, Prog.pure_eq_ret]
  unfold invO
  iintro ⟨#Hmw, Hx, ⟨%fa, Ha⟩, ⟨%fb, Hb⟩, ⟨%fo, %hfo, Ho⟩, HsA, HsB, %W', %hW', HO⟩
  -- the copy in
  iapply (Transfers.wp_dmaFromWhole countersEmb 𝒱₀ (tV d L) none (src := xK L t) (dst := sA) (sm := .dma cc0_scoped0.sem) (Sd := Finset.univ)
    (q := q) (fs := flatX m d) (fd := fa) (default : HIx 1) _ rfl (View.amount_pos _ _ (show 0 < S10000.numel by decide)) (Finset.subset_univ _)) $$ [Hx Ha HsA]
  · isplitl [Hx]; · iexact Hx
    isplitl [Ha]; · iexact Ha
    iexact HsA
  iintro Hfl
  iapply (Transfers.wp_waitLocalO countersEmb 𝒱₀ (tV d L) none (default : HIx 1) (rfl : (sA).view.dmaCredit = _)) $$ [Hfl HO]
  · isplitl [Hfl]; · iexact Hfl
    isplitl [HO]; · iexact HO
    iapply (Transfers.MayWaits.elim (SemLoc.dma cc0_scoped0.sem)) $$ Hmw
  iintro ⟨⟨Ha, Hx⟩, HsA, HO⟩
  ihave Ha := (Entails.of_eq (show ((sA).view.loc (tV d L) ↦[Finset.univ]{fullShare}
      ((sA).view.write (Elt F) fa (ReadAs.same.apply ((xK L t).view.read (Elt F) (flatX m d))) Finset.univ) : sProp 𝕄)
      = ((tV d L).loc cc0_scratch0 ↦{fullShare} fetched m d L t) from
    congrArg (fun g : Buf (Elt F) ((tV d L).loc cc0_scratch0) => ((tV d L).loc cc0_scratch0 ↦{fullShare} g : sProp 𝕄)) (View.write_whole_univ cc0_scratch0 fa _))) $$ Ha
  -- the steps
  iapply (Scf.wp_for_bind frame (wpE (defs₀ (F := F)) 𝒱₀ (tV d L) none) Set.univ _ _ _ k0_t2_ok _ _ (invB d L (fetched m d L t))
    (step_body d L (fetched m d L t))) $$ [Ha Hb]
  · unfold invB
    isplitl [Ha]; · iexact Ha
    iexists fb
    isplitr; · ipureintro; exact holdsB_zero d L _ fb
    iexact Hb
  iintro %_ HI
  unfold invB
  icases HI with ⟨Ha, %fb', %hfb, Hb⟩
  have hfb4 : HoldsB d L (fetched m d L t) 4000 fb' := by
    have h : HoldsB d L (fetched m d L t) (32 * k0_t2_loop.trips) fb' := hfb
    rwa [trips2] at h
  -- the copy out
  iapply (Transfers.wp_dmaFromWhole countersEmb 𝒱₀ (tV d L) none (src := sB) (dst := oK L t) (sm := .dma cc0_scoped1.sem) (Sd := part (wid L))
    (q := fullShare) (fs := fb') (fd := fo) (default : HIx 1) _ rfl (View.amount_pos _ _ (show 0 < S4000.numel by decide)) (oK_subset L t)) $$ [Hb Ho HsB]
  · isplitl [Hb]; · iexact Hb
    isplitl [Ho]; · iexact Ho
    iexact HsB
  iintro Hfl
  iapply (Transfers.wp_waitLocalO countersEmb 𝒱₀ (tV d L) none (default : HIx 1) (rfl : (oK L t).view.dmaCredit = _)) $$ [Hfl HO]
  · isplitl [Hfl]; · iexact Hfl
    isplitl [HO]; · iexact HO
    iapply (Transfers.MayWaits.elim (SemLoc.dma cc0_scoped1.sem)) $$ Hmw
  iintro ⟨⟨Ho, Hb⟩, HsB, HO⟩
  rw [wp_ret]
  imodintro
  isplitr; · iexact Hmw
  isplitl [Hx]; · iexact Hx
  isplitl [Ha]; · iexists _; iexact Ha
  isplitl [Hb]; · iexists _; iexact Hb
  isplitl [Ho]
  · iexists _
    isplitr
    swap; · iexact Ho
    ipureintro
    exact holdsO_step m d L t fo hfo fb' hfb4
  isplitl [HsA]; · iexact HsA
  isplitl [HsB]; · iexact HsB
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## A worker's task -/

omit m ρ [FloatOps F] in
/-- The worker's own semaphores: the two copy semaphores and the rest. -/
theorem ownSems0_V :
    (ownSems0 (tV d L) : sProp 𝕄)
      = iprop(semVal (cellA d L) 0 ∗ semVal (cellB d L) 0
          ∗ bigSep (((ownCells (tV d L)).erase (cellA d L)).erase (cellB d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scoped1.sem : SemLoc sig).isScoped .scVector = true; decide⟩⟩)]

omit m ρ [FloatOps F] in
/-- The worker's own buffers: the two scratch buffers, at some contents, and the rest. -/
theorem ownBufs_V :
    (ownBufs (tV d L) : sProp 𝕄)
      = iprop((∃ f, (tV d L).loc cc0_scratch0 ↦{fullShare} f) ∗ (∃ f, (tV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- After its 100 rounds a worker's part of the flat result is the products. -/
theorem holdsO_all (f : Buf (Elt F) (oLoc d)) (hf : HoldsO m d L (4000 * 100) f) :
    (oLoc d ↦[part (wid L)]{fullShare} f : sProp 𝕄) = oPts d (part (wid L)) (flatG m d) := by
  refine pointsTo_congr fun j hj => hf j hj ?_
  have := mem_part.mp hj
  omega

/-- Worker `L`'s task: from its share of the flat input and its part of the flat result to that part holding the products. -/
theorem task_body (hF : (K (F := F)).Facts) (O : CellTallies nD τ sig (HIx 1)) (W : Waits sig (HIx 1)) (hO : ∀ g, O g none = 0) (q : PosShare TreeShare) :
    iprop(levAts (K (F := F)).L (K (F := F)).lev ∗ emp
        ∗ (xPts m d q ∗ oPts d (part (wid L)) (m (oLoc d)))
        ∗ scopedBufs (tV d L) ∗ scopedSems0 (tV d L) ∗ owes (tV d L) O W)
      ⊢ wp frame (wpE (defs₀ (F := F)) 𝒱₀ (tV d L) none) Set.univ
          (cc0_sc_run L xV (Memref.isWhole_whole _) oV (Memref.isWhole_whole _) sA (Memref.isWhole_whole _) sB (Memref.isWhole_whole _)
            cc0_scoped0 cc0_scoped1)
          fun _ => iprop(oPts d (part (wid L)) (flatG m d) ∗ scopedBufs (tV d L) ∗ scopedSems0 (tV d L)
            ∗ ∃ W', ⌜∀ p ∈ W', p ∈ W ∨ p.2 = none⌝ ∗ owes (tV d L) O W') := by
  rw [cc0_sc_run_eq_skeleton]; unfold cc0_sc_run_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨Ha, Hb, Hbufs⟩, ⟨HsA, HsB, Hsems⟩, HO⟩
  ihave Hmw := (show levAts (K (F := F)).L (K (F := F)).lev ⊢ Transfers.MayWaits (tV d L) (default : HIx 1) O from
    (K (F := F)).mayWaits_none (thr := tV d L) hO) $$ Hlv
  iapply (Scf.wp_for_bind frame (wpE (defs₀ (F := F)) 𝒱₀ (tV d L) none) Set.univ _ _ _ k0_t1_ok _ _ (invO m d L O W q)
    (round_body m d L O W q)) $$ [Hmw Hx Ho Ha Hb HsA HsB HO]
  · unfold invO
    isplitl [Hmw]; · iexact Hmw
    isplitl [Hx]; · iexact Hx
    isplitl [Ha]; · iexact Ha
    isplitl [Hb]; · iexact Hb
    isplitl [Ho]
    · iexists (m (oLoc d))
      isplitr
      · ipureintro
        intro j hj hlt
        have := mem_part.mp hj
        omega
      · iexact Ho
    isplitl [HsA]; · iexact HsA
    isplitl [HsB]; · iexact HsB
    iexists W; isplitr
    · ipureintro; exact fun p hp => .inl hp
    · iexact HO
  iintro %_ HI
  unfold invO
  icases HI with ⟨-, -, Ha, Hb, ⟨%f, %hf, Ho⟩, HsA, HsB, HO⟩
  have hf' : HoldsO m d L (4000 * 100) f := by
    have h : HoldsO m d L (4000 * k0_t1_loop.trips) f := hf
    rwa [trips1] at h
  ihave Ho := (Entails.of_eq (holdsO_all m d L f hf')) $$ Ho
  rw [Prog.pure_eq_ret, wp_ret]
  imodintro
  isplitl [Ho]; · iexact Ho
  isplitl [Ha Hb Hbufs]
  · isplitl [Ha]; · iexact Ha
    isplitl [Hb]; · iexact Hb
    iexact Hbufs
  isplitl [HsA HsB Hsems]
  · isplitl [HsA]; · iexact HsA
    isplitl [HsB]; · iexact HsB
    iexact Hsems
  iexact HO

end Tile

/-! ## The launch's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_run (coordsV c s)
          xV (Memref.isWhole_whole _) oV (Memref.isWhole_whole _) sA (Memref.isWhole_whole _) sB (Memref.isWhole_whole _)
          cc0_scoped0 cc0_scoped1) ⟨⟩ c s := rfl

omit m ρ [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every worker's task meets what the launch asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_body m d (coordsV ⟨_, hci.1⟩ ⟨_, hci.2⟩) hF O W hO (qT c.val i.val)).trans (wp_mono frame _ _ fun _ => obl_post)

omit m ρ [FloatOps F] in
/-- A SparseCore's part of the flat result is its sixteen workers' parts. -/
theorem oPts_parts (d : Dev nD) (c : ℕ) (f : Buf (Elt F) (oLoc d)) :
    oPts d (coreSet c) f = bigSep Finset.univ fun i : Fin 16 => oPts d (part (2 * i.val + c)) f := by
  have e : (coreSet c : Finset (Idx (oLoc d))) = (Finset.univ : Finset (Fin 16)).biUnion (fun i => (part (2 * i.val + c) : Finset (Idx (oLoc d)))) :=
    Finset.ext fun j => by
      refine Iff.trans (mem_coreSet (c := c) (j := j)) ?_
      rw [Finset.mem_biUnion]
      exact exists_congr fun i => ⟨fun h => ⟨Finset.mem_univ i, mem_part.mpr h⟩, fun h => mem_part.mp h.2⟩
  refine (congrArg (fun I : Finset (Idx (oLoc d)) => (oLoc d ↦[I]{fullShare} f : sProp 𝕄)) e).trans ?_
  exact pointsTo_biUnion (ℓ := oLoc d) (q := fullShare) (f := f) Finset.univ (fun i : Fin 16 => part (2 * i.val + c))
    fun i _ i' _ h => part_disjoint (fun e => h (Fin.ext (by omega)))

theorem vecSplit : (K (F := F)).VecSplit' (P m) 0 := by
  intro d c
  show iprop(xPts m d (qC c.val) ∗ oPts d (coreSet c.val) (m (oLoc d))) ⊢ |={Set.univ}=> iprop(
      (bigSep (Finset.univ : Finset (Fin 16)) fun i => iprop(xPts m d (qT c.val i.val) ∗ oPts d (part (2 * i.val + c.val)) (m (oLoc d))))
      ∗ ((bigSep (Finset.univ : Finset (Fin 16)) fun i => oPts d (part (2 * i.val + c.val)) (flatG m d)) -∗ oPts d (coreSet c.val) (flatG m d)))
  rw [bigSep_sep']
  iintro ⟨Hx, Ho⟩; imodintro
  isplitl [Hx Ho]
  · isplitl [Hx]; · iapply (pointsTo_given_fin Finset.univ (flatX m d) (qC c.val) 16); iexact Hx
    iapply (Entails.of_eq (oPts_parts d c.val (m (oLoc d)))); iexact Ho
  iintro Ho
  iapply (Entails.of_eq (oPts_parts d c.val (flatG m d)).symm); iexact Ho

def u₀ : UU := (initOf (K (F := F)).hsCells (K (F := F)).hsToks, 1)

omit m ρ [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit ρ in
include m in
/-- A reshape on the TensorCore, its operand and its result held: the result's buffer ends at the reshaped operand. -/
theorem wp_reshape (d : Dev nD) (x y : Ref sig .tc) (hxy : (Proc.devRef .tc x : DevRef τ sig) ≠ Proc.devRef .tc y)
    (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (fx : Buf (Elt F) ((SparseCore.T d).loc x)) (fy : Buf (Elt F) ((SparseCore.T d).loc y)) {hp : (T d : Thread nD τ).2.kind.runsHlo = true}
    {Q : PUnit → sProp 𝕄} :
    iprop(boundary (T d) ∗ ((SparseCore.T d).loc x ↦{fullShare} fx) ∗ (SparseCore.T d).loc y ↦{fullShare} fy)
      ⊢ iprop(((boundary (T d) ∗ ((SparseCore.T d).loc x ↦{fullShare} fx) ∗ (SparseCore.T d).loc y ↦{fullShare} fun i => he ▸ shapeCast y.ty.shape fx hn i)
            -∗ Q ⟨⟩)
          -∗ wp frame (wpE ((K (F := F)).defs (D (F := F))) 𝒱 (SparseCore.T d) none) Set.univ
              (hlo hp (StableHlo.reshape x y he hn hx hy) fun _ => .ret ⟨⟩) Q) := by
  have hm : (Proc.devRef .tc x : DevRef τ sig) ∉ ({Proc.devRef .tc y} : Finset (DevRef τ sig)) := fun h => hxy (Finset.mem_singleton.mp h)
  have hheld (V : Valuation τ sig (Elt F)) : (held (T d) {Proc.devRef .tc x, Proc.devRef .tc y} V : sProp 𝕄)
      = iprop(((SparseCore.T d).loc x ↦{fullShare} V (Proc.devRef .tc x)) ∗ (SparseCore.T d).loc y ↦{fullShare} V (Proc.devRef .tc y)) := by
    unfold held
    rw [SparseCore.bigSep_insert' hm, bigSep_singleton]
  iintro ⟨Hb, Hx, Hy⟩ Hk
  iapply (wp_hlo_within 𝒱 (SparseCore.T d) none Set.univ (op := StableHlo.reshape x y he hn hx hy) (S := {Proc.devRef .tc x, Proc.devRef .tc y})
    (StableHlo.reshape_bufs (x := x) (y := y) he hn hx hy).subset
    (V := Function.update (Function.update (fun b => m (d, b)) (Proc.devRef .tc x) fx) (Proc.devRef .tc y) fy)) $$ [Hb Hx Hy]
  · isplitl [Hb]; · iexact Hb
    rw [hheld, Function.update_self, Function.update_of_ne hxy, Function.update_self]
    isplitl [Hx]; · iexact Hx
    iexact Hy
  iintro ⟨Hb, Hh⟩
  ihave Hh := (Entails.of_eq (hheld _)) $$ Hh
  icases Hh with ⟨Hx, Hy⟩
  rw [wp_ret]; imodintro
  iapply Hk
  isplitl [Hb]; · iexact Hb
  rw [StableHlo.reshape_result, HloOp.result_of_not_mem _ _ (by rw [StableHlo.reshape_writes]; exact hm), Function.update_of_ne hxy, Function.update_self]
  isplitl [Hx]; · iexact Hx
  iexact Hy

omit m ρ [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1)
      ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

omit m ρ [FloatOps F] in
/-- The flat result whole is the two SparseCores' parts. -/
theorem oPts_cores (d : Dev nD) (f : Buf (Elt F) (oLoc d)) :
    (oLoc d ↦{fullShare} f : sProp 𝕄) = bigSep Finset.univ fun c : Fin 2 => oPts d (coreSet c.val) f := by
  have e : (Finset.univ : Finset (Idx (oLoc d))) = (Finset.univ : Finset (Fin 2)).biUnion (fun c => (coreSet c.val : Finset (Idx (oLoc d)))) :=
    (Finset.eq_univ_of_forall fun j => by
      obtain ⟨c, -, hc⟩ := Finset.mem_biUnion.mp (coreSet_cover ▸ Finset.mem_univ (α := S12800000.Idx) j)
      exact Finset.mem_biUnion.mpr ⟨c, Finset.mem_univ c, hc⟩).symm
  refine (congrArg (fun I : Finset (Idx (oLoc d)) => (oLoc d ↦[I]{fullShare} f : sProp 𝕄)) e).trans ?_
  exact pointsTo_biUnion (ℓ := oLoc d) (q := fullShare) (f := f) Finset.univ (fun c : Fin 2 => coreSet c.val) coreSet_disjoint

/-- What the call takes: the flat input and the flat result. -/
theorem st0_of (d : Dev nD) :
    iprop(xPts m d fullShare ∗ oLoc d ↦{fullShare} m (oLoc d)) ⊢ (bigSep Finset.univ fun c : Fin ((K (F := F)).nCore 0) => (P m).st 0 d c : sProp 𝕄) := by
  show _ ⊢ (bigSep (Finset.univ : Finset (Fin 2)) fun c => iprop(xPts m d (qC c.val) ∗ oPts d (coreSet c.val) (m (oLoc d))))
  rw [bigSep_sep']
  iintro ⟨Hx, Ho⟩
  isplitl [Hx]; · iapply (pointsTo_given_fin Finset.univ (flatX m d) fullShare 2); iexact Hx
  iapply (Entails.of_eq (oPts_cores d (m (oLoc d)))); iexact Ho

/-- What it gives back: the flat result holding the products. -/
theorem dn0_eq (d : Dev nD) :
    (bigSep Finset.univ fun c : Fin ((K (F := F)).nCore 0) => (P m).dn 0 d c) = (oLoc d ↦{fullShare} flatG m d : sProp 𝕄) :=
  (oPts_cores d (flatG m d)).symm

/-- What @main leaves the claim: the argument as it was, and the result. -/
abbrev FIN (d : Dev nD) : sProp 𝕄 := iprop((aLoc d ↦{fullShare} m (aLoc d)) ∗ rLoc d ↦{fullShare} resG m d)

/-- @main on the TensorCore: the argument flattened, the call, the flat result reshaped to two columns. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Ho, Hr⟩, Hts, -⟩, -⟩
  iapply (wp_reshape m d main_arg0 main_v0 (by decide) rfl shapeCasts_S6400000x5_S32000000 _ _ (m (aLoc d)) (m (xLoc d))) $$ [Hb Ha Hx]
  · isplitl [Hb]; · iexact Hb
    isplitl [Ha]; · iexact Ha
    iexact Hx
  iintro ⟨Hb, Ha, Hx⟩
  iapply ((K (F := F)).wp_run (D (F := F)) 𝒱 (EH := EH) (P := P m) κ d 0) $$ [Hst Hx Ho Hb Hts Ha Hr]
  isplitr; · iexact Hctx
  isplitl [Hst]; · iexact Hst
  isplitl [Hx Ho]
  · iapply (st0_of m d)
    isplitl [Hx]; · iexact Hx
    iexact Ho
  iintro ⟨Hst, Hdn⟩
  ihave Ho := (Entails.of_eq (dn0_eq m d)) $$ Hdn
  iapply (wp_reshape m d main_v1 main_v2 (by decide) rfl shapeCasts_S12800000_S6400000x2 _ _ (flatG m d) (m (rLoc d))) $$ [Hb Ho Hr]
  · isplitl [Hb]; · iexact Hb
    isplitl [Ho]; · iexact Ho
    iexact Hr
  iintro ⟨Hb, -, Hr⟩
  imodintro
  isplitl [Hst]; · iexact Hst
  isplitr [Hb Hts]
  · isplitl [Ha]; · iexact Ha
    iexact Hr
  isplitl [Hb] <;> iassumption

def fq (d : Dev nD) (s' : Phys nD τ sig (Elt F)) : Prop := s'.mem.mem (aLoc d) = m (aLoc d) ∧ s'.mem.mem (rLoc d) = resG m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := resG m d)) $$ [HSI Hr]
  · isplitl [HSI] <;> iassumption
  icases H with %h2
  ipureintro; exact ⟨funext fun i => h1 i (Finset.mem_univ i), funext fun i => h2 i (Finset.mem_univ i)⟩

/-! ## The program's run -/

/-- What every run ends at: the argument unchanged, the result the products, every semaphore at zero. -/
def QC : PUnit × MemSt nD τ sig (Elt F) → Prop :=
  fun r => (∀ c : Dev nD, r.2.mem (aLoc c) = m (aLoc c) ∧ r.2.mem (rLoc c) = resG m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdealRun

end
-- ==== Proof.RefValue.lean ====
/-
  What both programs compute, index by index: column zero of a result row is the product of the row's first three entries,
  column one the product of its last two. The kernel's flat result, read back as two columns, is this for every
  element type; the reference's five masked multiplications are this over the extended reals, where a factor of one drops out.
-/
module

public import proofs.«01_k».proof.Proof.KernelIdealRun
public import proofs.«01_k».proof.Proof.Gen.ReferenceIdeal.Run
public import Idealize.ShloMosaic.Lib.IdealHost
public import Idealize.ShloMosaic.Lib.ValueIdx

@[expose] public section

noncomputable section

namespace Cert.Proof.RefValue

open Idealize.ShloMosaic Idealize.ShloMosaic.ValueIdx
open Cert.Proof.SegProd

/-- The array of the rows, five entries each. -/
abbrev SA : Shape := ⟨2, ![6400000, 5]⟩
/-- The array of the results, two to a row. -/
abbrev SR : Shape := ⟨2, ![6400000, 2]⟩

section Common

variable {F : FTy → Type} [FloatOps F]

/-- The two products of each row of `a`: its first three entries in column zero, its last two in column one. -/
def rowProd (a : FVec F SA .f32) : FVec F SR .f32 := fun j =>
  if (j 1).val = 0 then FloatOps.mulf (FloatOps.mulf (a (ix2 (j 0) 0)) (a (ix2 (j 0) 1))) (a (ix2 (j 0) 2))
  else FloatOps.mulf (a (ix2 (j 0) 3)) (a (ix2 (j 0) 4))

/-- Position `c r + i` of the flat reading of rows of `c` entries is entry `i` of row `r`. -/
theorem flat_row {α : Type} {n c k : ℕ} (hk : 0 < k) (x : (⟨2, ![n, c]⟩ : Shape).Idx → α)
    (h : (⟨2, ![n, c]⟩ : Shape).ShapeCasts ⟨1, ![k]⟩) (r : Fin n) (i : Fin c) (y : ℕ) (hy : y < k) (e : y = r.val * c + i.val) :
    shapeCast ⟨1, ![k]⟩ x h (pos k hk y) = x (ix2 r i) :=
  shapeCast_apply _ _ _ _ (by
    rw [Shape.rowMajor_val_one, Shape.rowMajor_val_two, pos_val hk hy, e]
    rfl)

/-- Entry `i` of row `r` of a flat array read as rows of `c` entries is the array's position `c r + i`. -/
theorem row_flat {α : Type} {n c k : ℕ} (hk : 0 < k) (x : (⟨1, ![k]⟩ : Shape).Idx → α)
    (h : (⟨1, ![k]⟩ : Shape).ShapeCasts ⟨2, ![n, c]⟩) (r : Fin n) (i : Fin c) (y : ℕ) (hy : y < k) (e : y = r.val * c + i.val) :
    shapeCast ⟨2, ![n, c]⟩ x h (ix2 r i) = x (pos k hk y) :=
  shapeCast_apply _ _ _ _ (by
    rw [Shape.rowMajor_val_one, Shape.rowMajor_val_two, pos_val hk hy, e]
    rfl)

open Cert.KernelIdeal Cert.Proof.KernelIdealRun in
/-- Entry `5 r + i` of the flat input is entry `i` of row `r`. -/
theorem xAt_row (m : (ℓ : Loc nD τ sig) → Buf (Elt F) ℓ) (d : Dev nD) (r : Fin 6400000) (i : Fin 5) (k : ℕ)
    (hk : k = 5 * r.val + i.val) : xAt m d k = (m (aLoc d) : FVec F SA .f32) (ix2 r i) :=
  flat_row (by omega) (m (aLoc d) : FVec F SA .f32) _ r i k (by omega) (by omega)

open Cert.KernelIdeal Cert.Proof.KernelIdealRun in
/-- The kernel's result is the two products of each row. -/
theorem resG_eq (m : (ℓ : Loc nD τ sig) → Buf (Elt F) ℓ) (d : Dev nD) : resG m d = rowProd (m (aLoc d)) := by
  funext j
  obtain ⟨r, c, rfl⟩ : ∃ (r : Fin 6400000) (c : Fin 2), j = ix2 r c := ⟨_, _, eq_ix2 j⟩
  have hr := r.isLt
  have hc := c.isLt
  refine (row_flat (by omega) (flatG m d : FVec F ⟨1, ![12800000]⟩ .f32) _ r c (2 * r.val + c.val)
    (by omega) (by omega)).trans ?_
  show prodAt (xAt m d) (pos 12800000 (by omega) (2 * r.val + c.val) 0).val = if c.val = 0 then
      FloatOps.mulf (FloatOps.mulf ((m (aLoc d) : FVec F SA .f32) (ix2 r 0)) ((m (aLoc d) : FVec F SA .f32) (ix2 r 1)))
        ((m (aLoc d) : FVec F SA .f32) (ix2 r 2))
    else FloatOps.mulf ((m (aLoc d) : FVec F SA .f32) (ix2 r 3)) ((m (aLoc d) : FVec F SA .f32) (ix2 r 4))
  rw [pos_val _ (by omega), ← xAt_row m d r 0 (5 * r.val) rfl, ← xAt_row m d r 1 (5 * r.val + 1) rfl,
    ← xAt_row m d r 2 (5 * r.val + 2) rfl, ← xAt_row m d r 3 (5 * r.val + 3) rfl, ← xAt_row m d r 4 (5 * r.val + 4) rfl]
  rcases (show c.val = 0 ∨ c.val = 1 by omega) with h | h
  · rw [if_pos h, h, Nat.add_zero, prodAt_even]
  · rw [if_neg (by omega), h, prodAt_odd]

end Common

section Reference

open Cert.ReferenceIdeal Cert.ReferenceIdeal.Gen

variable (a : FVec Ideal SA .f32)

/-- The all-ones array is one everywhere. -/
theorem ones_apply (j : S2x6400000.Idx) :
    broadcastInDim S2x6400000 ![] bcast_S_S2x6400000 (constant (F := Ideal) S_ .f32 0x3F800000#32) j = (1 : EReal) :=
  Ideal.ofBits_one_f32

/-- The mask of factor `i` at a segment: whether the segment is the `i`th entry of the table. -/
theorem mask_apply (i : Fin 5) (h : S5.Slices ![i.val] S1) (c : Fin 2) (r : Fin 6400000) :
    broadcastInDim S2x6400000 ![0, 1] bcast_S2x1_S2x6400000_0_1
      (cmpi .eq (broadcastInDim S2x1 ![0] bcast_S2_S2x1_0 (iotaInDim S2 32 0))
        (broadcastInDim S2x1 ![] bcast_S_S2x1
          (shapeCast S_ (extractStridedSlice S1 ![i.val] (fun k => lit0 (S5.rowMajor k)) h) shapeCasts_S1_S_))) (ix2 c r)
      = IntOp.cmpi .eq (BitVec.ofNat 32 c.val) (lit0 i) := by
  rw [broadcastInDim_apply _ _ _ _ (ix2 c (0 : Fin 1)) (by
    intro b; match b with | ⟨0, _⟩ => rfl | ⟨1, _⟩ => rfl)]
  show IntOp.cmpi .eq _ _ = _
  refine congrArg (IntOp.cmpi .eq (BitVec.ofNat 32 c.val)) ?_
  refine (broadcastInDim_apply _ _ _ _ ix0 (fun b => b.elim0)).trans ?_
  refine (shapeCast_apply _ _ _ (ix1 (0 : Fin 1)) (by rw [Shape.rowMajor_val_one]; rfl)).trans ?_
  refine (extractStridedSlice_apply _ _ _ _ (ix1 i) (by intro b; match b with | ⟨0, _⟩ => rfl)).trans ?_
  exact congrArg lit0 (Fin.ext (Shape.rowMajor_val_one _))

/-- Row `i` of the transposed input, spread over the segments, is column `i` of the input. -/
theorem row_apply (i : Fin 5) (h : S5x6400000.Slices ![i.val, 0] S1x6400000) (c : Fin 2) (r : Fin 6400000) :
    broadcastInDim S2x6400000 ![0, 1] bcast_S1x6400000_S2x6400000_0_1
      (broadcastInDim S1x6400000 ![1] bcast_S6400000_S1x6400000_1
        (shapeCast S6400000 (extractStridedSlice S1x6400000 ![i.val, 0]
          (transpose S5x6400000 [1, 0] a transposes_S6400000x5_S5x6400000_1_0) h) shapeCasts_S1x6400000_S6400000)) (ix2 c r)
      = a (ix2 r i) := by
  rw [broadcastInDim_apply _ _ _ _ (ix2 (0 : Fin 1) r) (by
    intro b; match b with | ⟨0, _⟩ => rfl | ⟨1, _⟩ => rfl)]
  rw [broadcastInDim_apply _ _ _ _ (ix1 r) (by intro b; match b with | ⟨0, _⟩ => rfl)]
  rw [shapeCast_apply _ _ _ (ix2 (0 : Fin 1) r) (by
    rw [Shape.rowMajor_val_one, Shape.rowMajor_val_two]
    show 0 * 6400000 + r.val = r.val
    omega)]
  rw [extractStridedSlice_apply _ _ _ _ (ix2 i r) (by
    intro b; match b with | ⟨0, _⟩ => rfl | ⟨1, _⟩ => exact (Nat.zero_add _).symm)]
  exact transpose_apply _ _ _ _ (ix2 r i) (by intro b; match b with | ⟨0, _⟩ => rfl | ⟨1, _⟩ => rfl)

/-- Factor `i` of the reference's product: column `i` of the input where the segment is the table's `i`th entry, else one. -/
def factor (i : Fin 5) (h : S5.Slices ![i.val] S1) (h' : S5x6400000.Slices ![i.val, 0] S1x6400000) :
    FVec Ideal S2x6400000 .f32 :=
  select (broadcastInDim S2x6400000 ![0, 1] bcast_S2x1_S2x6400000_0_1
      (cmpi .eq (broadcastInDim S2x1 ![0] bcast_S2_S2x1_0 (iotaInDim S2 32 0))
        (broadcastInDim S2x1 ![] bcast_S_S2x1
          (shapeCast S_ (extractStridedSlice S1 ![i.val] (fun k => lit0 (S5.rowMajor k)) h) shapeCasts_S1_S_))))
    (broadcastInDim S2x6400000 ![0, 1] bcast_S1x6400000_S2x6400000_0_1
      (broadcastInDim S1x6400000 ![1] bcast_S6400000_S1x6400000_1
        (shapeCast S6400000 (extractStridedSlice S1x6400000 ![i.val, 0]
          (transpose S5x6400000 [1, 0] a transposes_S6400000x5_S5x6400000_1_0) h') shapeCasts_S1x6400000_S6400000)))
    (broadcastInDim S2x6400000 ![] bcast_S_S2x6400000 (id (constant S_ .f32 0x3F800000#32)))

/-- A factor of the segment the table names is the input's entry. -/
theorem factor_in (i : Fin 5) (h : S5.Slices ![i.val] S1) (h' : S5x6400000.Slices ![i.val, 0] S1x6400000) (c : Fin 2)
    (r : Fin 6400000) (hs : IntOp.cmpi .eq (BitVec.ofNat 32 c.val) (lit0 i) = 1) : factor a i h h' (ix2 c r) = a (ix2 r i) := by
  unfold factor
  rw [select_apply, mask_apply i h c r, row_apply a i h' c r, hs]
  exact select_one _ _

/-- A factor of any other segment is one. -/
theorem factor_out (i : Fin 5) (h : S5.Slices ![i.val] S1) (h' : S5x6400000.Slices ![i.val, 0] S1x6400000) (c : Fin 2)
    (r : Fin 6400000) (hs : IntOp.cmpi .eq (BitVec.ofNat 32 c.val) (lit0 i) = 0) :
    factor a i h h' (ix2 c r) = (1 : EReal) := by
  unfold factor
  rw [select_apply, mask_apply i h c r, row_apply a i h' c r, hs]
  exact (select_zero _ _).trans (ones_apply _)

/-- The reference's whole product, transposed to rows. -/
def refOut : FVec Ideal SR .f32 :=
  transpose S6400000x2 [1, 0]
    (mulf (mulf (mulf (mulf (mulf (broadcastInDim S2x6400000 ![] bcast_S_S2x6400000 (constant S_ .f32 0x3F800000#32))
      (factor a 0 slices_S5_S1_0 slices_S5x6400000_S1x6400000_0_0))
      (factor a 1 slices_S5_S1_1 slices_S5x6400000_S1x6400000_1_0))
      (factor a 2 slices_S5_S1_2 slices_S5x6400000_S1x6400000_2_0))
      (factor a 3 slices_S5_S1_3 slices_S5x6400000_S1x6400000_3_0))
      (factor a 4 slices_S5_S1_4 slices_S5x6400000_S1x6400000_4_0)) transposes_S2x6400000_S6400000x2_1_0

/-- The reference's result is the two products of each row. -/
theorem refOut_eq : refOut a = rowProd a := by
  funext j
  obtain ⟨r, c, rfl⟩ : ∃ (r : Fin 6400000) (c : Fin 2), j = ix2 r c := ⟨_, _, eq_ix2 j⟩
  unfold refOut
  rw [transpose_apply _ _ _ _ (ix2 c r) (by intro b; match b with | ⟨0, _⟩ => rfl | ⟨1, _⟩ => rfl)]
  simp only [mulf_apply]
  rw [ones_apply]
  unfold rowProd
  match c with
  | ⟨0, hc⟩ =>
    rw [if_pos (show (ix2 r (⟨0, hc⟩ : Fin 2) 1).val = 0 from rfl), factor_in a 0 _ _ _ _ rfl, factor_in a 1 _ _ _ _ rfl,
      factor_in a 2 _ _ _ _ rfl, factor_out a 3 _ _ _ _ rfl, factor_out a 4 _ _ _ _ rfl, one_mul, mul_one, mul_one]
    rfl
  | ⟨1, hc⟩ =>
    rw [if_neg (show ¬ (ix2 r (⟨1, hc⟩ : Fin 2) 1).val = 0 from Nat.one_ne_zero), factor_out a 0 _ _ _ _ rfl,
      factor_out a 1 _ _ _ _ rfl, factor_out a 2 _ _ _ _ rfl, factor_in a 3 _ _ _ _ rfl, factor_in a 4 _ _ _ _ rfl, one_mul,
      one_mul, one_mul, one_mul]
    rfl

open Idealize.SL.Sem in
/-- The reference's run ends with the two products of each row in its result and with its argument untouched. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v49) = rowProd (F := Ideal) (m (c.tc.loc main_arg0)) ∧ r.2.mem (c.tc.loc main_arg0) = m (c.tc.loc main_arg0) :=
  (θ_run _ _ _).mono (fun _ h c => ⟨(h c).1.trans (refOut_eq (m (c.tc.loc main_arg0))), (h c).2⟩)
    (Cert.ReferenceIdeal.Value.run (F := Ideal) m ρ)

end Reference

end Cert.Proof.RefValue

end
-- ==== Proof.lean ====
/-
  The proof of the five claims: the kernel program keeps its argument and leaves every counter at zero, at the exact words
  and over the extended reals; so does the reference; the idealized program is the printed one; and over the extended reals
  the kernel and the reference end with one result, the products of each row's first three and last two entries.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.RefValue
public import Idealize.ShloMosaic.Adequacy
public import Idealize.ShloMosaic.Init

@[expose] public section

noncomputable section

namespace Cert.Proof

open Idealize.ShloMosaic Idealize.SL.Sem

/-- The kernel program, on exact words: it ends, its argument as it was and every counter at zero. -/
theorem frame_kernel : Cert.quiescent_Kernel := fun m ρ _ =>
  (θ_run Cert.Kernel.defs _ _).mono (fun _ h => ⟨fun c => (h.1 c).1, h.2⟩) (KernelRun.run_main (F := Bits) m ρ)

/-- The kernel program over the extended reals: it ends, its argument as it was and every counter at zero. -/
theorem frame_kernelIdeal : Cert.quiescent_KernelIdeal := fun m ρ _ =>
  (θ_run Cert.KernelIdeal.defs _ _).mono (fun _ h => ⟨fun c => (h.1 c).1, h.2⟩) (KernelIdealRun.run_main (F := Ideal) m ρ)

/-- The reference over the extended reals: it ends with its argument as it was, and it declares no counter. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (RefValue.run_ref m ρ)

/-- Over the extended reals the kernel and the reference, from one argument, end with one result and keep the argument. -/
theorem algebraic : Cert.algebraic_KernelIdeal_ReferenceIdeal := by
  intro m ρ m' ρ' _ hagree
  refine ⟨fun c => KernelIdealRun.resG m c, ?_, ?_⟩
  · exact (θ_run Cert.KernelIdeal.defs _ _).mono (fun _ h c => ⟨(h.1 c).2, (h.1 c).1⟩)
      (KernelIdealRun.run_main (F := Ideal) m ρ)
  · refine (θ_run Cert.ReferenceIdeal.defs _ _).mono (fun _ h c => ⟨(h c).1.trans ?_, (h c).2⟩) (RefValue.run_ref m' ρ')
    exact (congrArg (RefValue.rowProd (F := Ideal)) (hagree c)).trans (RefValue.resG_eq m c).symm

/-- The whole claim. -/
theorem claim : Cert.Claim :=
  ⟨Cert.Kernel.Gen.facts, Cert.KernelIdeal.Gen.facts, Cert.ReferenceIdeal.Gen.facts, frame_kernel, frame_kernelIdeal,
    frame_referenceIdeal, trivial, algebraic⟩

end Cert.Proof

end
